-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S4096x8 : Shape := ⟨2, ![4096, 8]⟩
abbrev S4096x256 : Shape := ⟨2, ![4096, 256]⟩
abbrev S4096x7168 : Shape := ⟨2, ![4096, 7168]⟩
abbrev S4096 : Shape := ⟨1, ![4096]⟩
abbrev S7168x256 : Shape := ⟨2, ![7168, 256]⟩
abbrev S256 : Shape := ⟨1, ![256]⟩
abbrev S1 : Shape := ⟨1, ![1]⟩
abbrev S16x1x256 : Shape := ⟨3, ![16, 1, 256]⟩
abbrev S1x256 : Shape := ⟨2, ![1, 256]⟩
abbrev S256x8 : Shape := ⟨2, ![256, 8]⟩
abbrev S256x256 : Shape := ⟨2, ![256, 256]⟩
abbrev S256x7168 : Shape := ⟨2, ![256, 7168]⟩
abbrev S1x1x256 : Shape := ⟨3, ![1, 1, 256]⟩
abbrev S1x128 : Shape := ⟨2, ![1, 128]⟩
abbrev S8x128 : Shape := ⟨2, ![8, 128]⟩
abbrev S128x8 : Shape := ⟨2, ![128, 8]⟩
abbrev S256x1 : Shape := ⟨2, ![256, 1]⟩
abbrev S128x128 : Shape := ⟨2, ![128, 128]⟩
abbrev S128 : Shape := ⟨1, ![128]⟩
abbrev S128x1 : Shape := ⟨2, ![128, 1]⟩

abbrev nBuf : Space → Nat
  | .hbm => 14
  | .vmem => 18
  | .smem => 1
  | _ => 0

abbrev bufTy : (tb : Table) → Fin (tcTables nBuf tb) → BufTy
  | .hbm, ⟨0, _⟩ => ⟨S256x128, .f32⟩
  | .hbm, ⟨1, _⟩ => ⟨S4096x8, .i32⟩
  | .hbm, ⟨2, _⟩ => ⟨S4096x256, .f32⟩
  | .hbm, ⟨3, _⟩ => ⟨S4096x7168, .fp8e4m3⟩
  | .hbm, ⟨4, _⟩ => ⟨S4096, .f32⟩
  | .hbm, ⟨5, _⟩ => ⟨S7168x256, .bf16⟩
  | .hbm, ⟨6, _⟩ => ⟨S256, .f32⟩
  | .hbm, ⟨7, _⟩ => ⟨S1, .f32⟩
  | .hbm, ⟨8, _⟩ => ⟨S16x1x256, .f32⟩
  | .hbm, ⟨9, _⟩ => ⟨S1x256, .f32⟩
  | .hbm, ⟨10, _⟩ => ⟨S4096x7168, .bf16⟩
  | .hbm, ⟨11, _⟩ => ⟨S7168x256, .f32⟩
  | .hbm, ⟨12, _⟩ => ⟨S4096x256, .f32⟩
  | .hbm, ⟨13, _⟩ => ⟨S4096x8, .f32⟩
  | .local _ .vmem, ⟨0, _⟩ => ⟨S256x128, .f32⟩
  | .local _ .vmem, ⟨1, _⟩ => ⟨S256x8, .i32⟩
  | .local _ .vmem, ⟨2, _⟩ => ⟨S256x8, .i32⟩
  | .local _ .vmem, ⟨3, _⟩ => ⟨S256x256, .f32⟩
  | .local _ .vmem, ⟨4, _⟩ => ⟨S256x256, .f32⟩
  | .local _ .vmem, ⟨5, _⟩ => ⟨S256x7168, .fp8e4m3⟩
  | .local _ .vmem, ⟨6, _⟩ => ⟨S256x7168, .fp8e4m3⟩
  | .local _ .vmem, ⟨7, _⟩ => ⟨S1x1x256, .f32⟩
  | .local _ .vmem, ⟨8, _⟩ => ⟨S1x1x256, .f32⟩
  | .local _ .vmem, ⟨9, _⟩ => ⟨S7168x256, .bf16⟩
  | .local _ .vmem, ⟨10, _⟩ => ⟨S1x256, .f32⟩
  | .local _ .vmem, ⟨11, _⟩ => ⟨S256x7168, .bf16⟩
  | .local _ .vmem, ⟨12, _⟩ => ⟨S256x7168, .bf16⟩
  | .local _ .vmem, ⟨13, _⟩ => ⟨S7168x256, .f32⟩
  | .local _ .vmem, ⟨14, _⟩ => ⟨S256x256, .f32⟩
  | .local _ .vmem, ⟨15, _⟩ => ⟨S256x256, .f32⟩
  | .local _ .vmem, ⟨16, _⟩ => ⟨S256x8, .f32⟩
  | .local _ .vmem, ⟨17, _⟩ => ⟨S256x8, .f32⟩
  | .local _ .smem, ⟨0, _⟩ => ⟨S1, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def k0_off1 (i : grid0.Coords) (c0_i32 : BitVec 32) (c0_i32_0 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi c0_i32 v0
  let v2 : BitVec 32 := Scalar.addi v1 c0_i32_0
  let v3 : Index := Scalar.indexCast v2
  let c0 : Index := 0#32
  ![v3.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S7168x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x7168 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S7168x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S256x128 : Shape := ⟨2, ![256, 128]⟩
abbrev S4096x8 : Shape := ⟨2, ![4096, 8]⟩
abbrev S4096x256 : Shape := ⟨2, ![4096, 256]⟩
abbrev S4096x7168 : Shape := ⟨2, ![4096, 7168]⟩
abbrev S4096 : Shape := ⟨1, ![4096]⟩
abbrev S7168x256 : Shape := ⟨2, ![7168, 256]⟩
abbrev S256 : Shape := ⟨1, ![256]⟩
abbrev S1 : Shape := ⟨1, ![1]⟩
abbrev S4096x1 : Shape := ⟨2, ![4096, 1]⟩
abbrev S8x4096 : Shape := ⟨2, ![8, 4096]⟩
abbrev S4096x8x1 : Shape := ⟨3, ![4096, 8, 1]⟩
abbrev S1x1x256 : Shape := ⟨3, ![1, 1, 256]⟩
abbrev S4096x8x256 : Shape := ⟨3, ![4096, 8, 256]⟩
abbrev S_ : Shape := ⟨0, ![]⟩
abbrev S1x256 : Shape := ⟨2, ![1, 256]⟩

abbrev nBuf : Space → Nat
  | .hbm => 90
  | .vmem => 3
  | .smem => 0
  | _ => 0

abbrev bufTy : (tb : Table) → Fin (tcTables nBuf tb) → BufTy
  | .hbm, ⟨0, _⟩ => ⟨S256x128, .f32⟩
  | .hbm, ⟨1, _⟩ => ⟨S4096x8, .i32⟩
  | .hbm, ⟨2, _⟩ => ⟨S4096x256, .f32⟩
  | .hbm, ⟨3, _⟩ => ⟨S4096x7168, .fp8e4m3⟩
  | .hbm, ⟨4, _⟩ => ⟨S4096, .f32⟩
  | .hbm, ⟨5, _⟩ => ⟨S7168x256, .bf16⟩
  | .hbm, ⟨6, _⟩ => ⟨S256, .f32⟩
  | .hbm, ⟨7, _⟩ => ⟨S1, .f32⟩
  | .hbm, ⟨8, _⟩ => ⟨S4096x1, .f32⟩
  | .hbm, ⟨9, _⟩ => ⟨S4096x7168, .bf16⟩
  | .hbm, ⟨10, _⟩ => ⟨S8x4096, .f32⟩
  | .hbm, ⟨11, _⟩ => ⟨S4096x8, .f32⟩
  | .hbm, ⟨12, _⟩ => ⟨S4096x8x1, .i32⟩
  | .hbm, ⟨13, _⟩ => ⟨S1x1x256, .i32⟩
  | .hbm, ⟨14, _⟩ => ⟨S4096x8x256, .i32⟩
  | .hbm, ⟨15, _⟩ => ⟨S4096x8x256, .i32⟩
  | .hbm, ⟨16, _⟩ => ⟨S4096x8x256, .i1⟩
  | .hbm, ⟨17, _⟩ => ⟨S4096x8x256, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x256, .f32⟩
  | .hbm, ⟨25, _⟩ => ⟨S4096x256, .f32⟩
  | .hbm, ⟨26, _⟩ => ⟨S4096x8, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x8, .f32⟩
  | .hbm, ⟨43, _⟩ => ⟨S4096x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S_, .f32⟩
  | .hbm, ⟨48, _⟩ => ⟨S4096x8, .f32⟩
  | .hbm, ⟨49, _⟩ => ⟨S4096x8, .f32⟩
  | .hbm, ⟨50, _⟩ => ⟨S4096x8, .f32⟩
  | .hbm, ⟨51, _⟩ => ⟨S4096x256, .f32⟩
  | .hbm, ⟨52, _⟩ => ⟨S_, .f32⟩
  | .hbm, ⟨53, _⟩ => ⟨S1, .f32⟩
  | .hbm, ⟨54, _⟩ => ⟨S1, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x256, .f32⟩
  | .hbm, ⟨67, _⟩ => ⟨S4096x256, .f32⟩
  | .hbm, ⟨68, _⟩ => ⟨S1x256, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S1x256, .f32⟩
  | .hbm, ⟨75, _⟩ => ⟨S4096x256, .f32⟩
  | .hbm, ⟨76, _⟩ => ⟨S4096x256, .f32⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .hbm, ⟨81, _⟩ => ⟨S_, .f32⟩
  | .hbm, ⟨82, _⟩ => ⟨S4096x256, .f32⟩
  | .hbm, ⟨83, _⟩ => ⟨S4096x256, .f32⟩
  | .hbm, ⟨84, _⟩ => ⟨S4096x256, .f32⟩
  | .hbm, ⟨85, _⟩ => ⟨S4096x256, .f32⟩
  | .hbm, ⟨86, _⟩ => ⟨S4096x256, .bf16⟩
  | .hbm, ⟨87, _⟩ => ⟨S4096x7168, .f32⟩
  | .hbm, ⟨88, _⟩ => ⟨S4096x7168, .bf16⟩
  | .hbm, ⟨89, _⟩ => ⟨S7168x256, .f32⟩
  | .local _ .vmem, ⟨0, _⟩ => ⟨S4096x7168, .fp8e4m3⟩
  | .local _ .vmem, ⟨1, _⟩ => ⟨S4096x1, .f32⟩
  | .local _ .vmem, ⟨2, _⟩ => ⟨S4096x7168, .bf16⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Block.lean ====
module

public import proofs.«01_k».proof.Proof.Gen.KernelIdeal.Value

@[expose] public section

set_option maxRecDepth 16384

noncomputable section

/-! What one grid point of the kernel computes, as terms over the printed payloads: the block of weight gradients,
    the block of logit gradients, the block of input gradients and the step of the weight-matrix accumulator; and that
    the four staging buffers hold exactly these after the point. -/

namespace Cert.Proof.Block

open Cert.KernelIdeal Cert.KernelIdeal.Gen Idealize.ShloMosaic Idealize.ShloMosaic.TcCoe Idealize.SL.Sem

variable {F : FTy → Type} [FloatOps F]

/-- The row of 128 weight gradients that point `i` loads for expert slot `k` and half `p` of its token block. -/
def dwRow (i : grid0.Coords) (x1 : Vec F S256x128 .f32) (k : Fin 8) (p : Fin 2) : Vec F S1x128 .f32 :=
  View.ld x1 (Rect.unit (s := S256x128) (k0_off1 i (BitVec.ofNat 32 (32 * k.val)) (BitVec.ofNat 32 p.val)) S1x128.size (k0_off1_inb i k p))

/-- The block of weight gradients of point `i`: one row per token, one column per expert slot. -/
def dwB (i : grid0.Coords) (x1 : Vec F S256x128 .f32) : FVec F S256x8 .f32 :=
  k0_pay2 (k0_pay1 (dwRow i x1 0 0) (dwRow i x1 1 0) (dwRow i x1 2 0) (dwRow i x1 3 0) (dwRow i x1 4 0) (dwRow i x1 5 0) (dwRow i x1 6 0) (dwRow i x1 7 0))
    (dwRow i x1 0 1) (dwRow i x1 1 1) (dwRow i x1 2 1) (dwRow i x1 3 1) (dwRow i x1 4 1) (dwRow i x1 5 1) (dwRow i x1 6 1) (dwRow i x1 7 1)

/-- The gates of the block's tokens at their eight experts. -/
def gB (x2 : Vec F S256x8 .i32) (x3 : Vec F S256x256 .f32) : FVec F S256x8 .f32 :=
  k0_pay12 (k0_pay3 x3) (iota .tc S256x256 32 [1] iota_S256x256_d1_w32) x2 (k0_pay4 x2) (k0_pay5 x2) (k0_pay6 x2) (k0_pay7 x2) (k0_pay8 x2) (k0_pay9 x2)

/-- The sums of the block's gates, one per token. -/
def sB (x2 : Vec F S256x8 .i32) (x3 : Vec F S256x256 .f32) : FVec F S256x1 .f32 :=
  k0_pay13 (k0_pay3 x3) (iota .tc S256x256 32 [1] iota_S256x256_d1_w32) x2 (k0_pay4 x2) (k0_pay5 x2) (k0_pay6 x2) (k0_pay7 x2) (k0_pay8 x2) (k0_pay9 x2)

/-- The gradients of the block's chosen logits, one per token and expert slot, from the block `w` of weight gradients. -/
def dselB (w : FVec F S256x8 .f32) (x2 : Vec F S256x8 .i32) (x3 : Vec F S256x256 .f32) : FVec F S256x8 .f32 :=
  k0_pay15 w (gB x2 x3) (sB x2 x3) k0_pay14

/-- The block of logit gradients, from the block `w` of weight gradients and the loss coefficient `a`. -/
def dlB (w : FVec F S256x8 .f32) (a : Elt F .f32) (x2 : Vec F S256x8 .i32) (x3 : Vec F S256x256 .f32) (x7 : Vec F S1x256 .f32) : FVec F S256x256 .f32 :=
  k0_pay18 (k0_pay3 x3) (k0_pay9 x2) (k0_pay10 (iota .tc S256x256 32 [1] iota_S256x256_d1_w32) x2) (k0_pay11 (iota .tc S256x256 32 [1] iota_S256x256_d1_w32) x2)
    (dselB w x2 x3) (k0_pay16 w (k0_pay4 x2) (k0_pay5 x2) (k0_pay6 x2) (k0_pay7 x2) (k0_pay8 x2) (gB x2 x3) (sB x2 x3) k0_pay14)
    (Scalar.ofBits .f32 0x00000000#32) (k0_pay17 w (gB x2 x3) (sB x2 x3) k0_pay14) a x7

/-- The block of input gradients, from the block `d` of logit gradients and the router matrix. -/
def dxB (d : FVec F S256x256 .f32) (x6 : Vec F S7168x256 .bf16) : FVec F S256x7168 .bf16 :=
  k0_pay20 (truncf .bf16 d bitsLt_bf16_f32) x6

/-- One step of the router-matrix accumulator: the block's contribution added to what it held. -/
def accB (d : FVec F S256x256 .f32) (x4 : Vec F S256x7168 .fp8e4m3) (x5 : Vec F S1x1x256 .f32) (acc : Vec F S7168x256 .f32) : FVec F S7168x256 .f32 :=
  k0_pay22 (truncf .bf16 d bitsLt_bf16_f32) x5 x4 acc

variable (m : (ℓ : Loc nD τ sig) → Buf (Elt F) ℓ)

/-- The logit gradients of point `t` of device `c`. -/
abbrev dlAt (c : Dev nD) (t : Fin cfg0.N) : FVec F S256x256 .f32 :=
  dlB (dwB (grid0.coords t) (iblk m c 1 t)) (View.ld (iblk m c 0 t) (Rect.unit (s := S1) ![0] S1.size inb_S1_S1_0) (Shape.Idx.first (s := S1) (by decide))) (iblk m c 2 t) (iblk m c 3 t) (iblk m c 7 t)

/-- The whole rectangle at zero offsets reads the vector itself. -/
theorem ld_whole {S : Shape} {e : EltTy} {off : Fin S.rank → Nat} (h : ∀ a, off a = 0) (inb : ∀ a, off a + S.size a ≤ S.size a) (X : S.Idx → Elt F e) :
    View.ld X (Rect.unit off S.size inb) = X :=
  View.ld_unit_zero (funext h) inb X

set_option maxHeartbeats 2000000 in
/-- What the four output buffers hold after a point, at the first point: the accumulator is the step over zeros. -/
theorem outs_A (c : Dev nD) (t : Fin cfg0.N) (h0 : t.val % 16 = 0) :
    outsAt0 m c t.val t.isLt = (dxB (dlAt m c t) (iblk m c 6 t), accB (dlAt m c t) (iblk m c 4 t) (iblk m c 5 t) (k0_pay21), dlAt m c t, dwB (grid0.coords t) (iblk m c 1 t)) := by
  rw [outsAt0_A m c t h0]
  unfold out0_A_8 out0_A_9 out0_A_10 out0_A_11
  rw [View.read_writes_eq_canon _ _ _ (cover0_A_8 c _ _ _ _ _ _ _ _ _ _ _ _ _ _ _ _ _ _ _ _ _ _ _ _ _ _ _ _ _ _ _ _ _ _), View.read_writes_eq_canon _ _ _ (cover0_A_9 c _ _ _ _ _ _ _ _ _ _ _ _ _ _ _ _ _ _ _ _ _ _ _ _ _ _ _ _ _ _ _ _ _ _), View.read_writes_eq_canon _ _ _ (cover0_A_10 c _ _ _ _ _ _ _ _ _ _ _ _ _ _ _ _ _ _ _ _ _ _ _ _ _ _ _ _ _ _ _ _ _ _), View.read_writes_eq_canon _ _ _ (cover0_A_11 c _ _ _ _ _ _ _ _ _ _ _ _ _ _ _ _ _ _ _ _ _ _ _ _ _ _ _ _ _ _ _ _ _ _)]
  unfold kernelRun0_A
  dsimp only
  rw [View.canon_unit_zero (S := S256x7168) (by funext a; fin_cases a <;> rfl), View.canon_cons_unit_zero (S := S7168x256) (by funext a; fin_cases a <;> rfl),
    View.canon_unit_zero (S := S256x256) (by funext a; fin_cases a <;> rfl), View.canon_unit_zero (S := S256x8) (by funext a; fin_cases a <;> rfl)]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, ld_whole (F := F) (S := S256x8) (off := ![0, 0]) (by decide), ld_whole (F := F) (S := S256x256) (off := ![0, 0]) (by decide),
    ld_whole (F := F) (S := S1x256) (off := ![0, 0]) (by decide), ld_whole (F := F) (S := S256x7168) (off := ![0, 0]) (by decide), ld_whole (F := F) (S := S7168x256) (off := ![0, 0]) (by decide),
    ld_whole (F := F) (S := S1x1x256) (off := ![0, 0, 0]) (by decide)]
  rw [View.readCov_unit_zero (S := S7168x256) (ms0_9 t).view (by funext a; fin_cases a <;> rfl)]
  rfl

set_option maxHeartbeats 2000000 in
/-- What the four output buffers hold after a point, at a later point: the accumulator is the step over what the point before left. -/
theorem outs_B (c : Dev nD) (t : Fin cfg0.N) (h0 : ¬t.val % 16 = 0) :
    outsAt0 m c t.val t.isLt = (dxB (dlAt m c t) (iblk m c 6 t), accB (dlAt m c t) (iblk m c 4 t) (iblk m c 5 t) ((outsAt0 m c (t.val - 1) (Nat.lt_of_le_of_lt (Nat.sub_le _ _) t.isLt)).2.1), dlAt m c t, dwB (grid0.coords t) (iblk m c 1 t)) := by
  rw [outsAt0_B m c t h0]
  unfold out0_B_8 out0_B_9 out0_B_10 out0_B_11
  rw [View.read_writes_eq_canon _ _ _ (cover0_B_8 c _ _ _ _ _ _ _ _ _ _ _ _ _ _ _ _ _ _ _ _ _ _ _ _ _ _ _ _ _ _ _ _ _ _ _), View.read_writes_eq_canon _ _ _ (cover0_B_9 c _ _ _ _ _ _ _ _ _ _ _ _ _ _ _ _ _ _ _ _ _ _ _ _ _ _ _ _ _ _ _ _ _ _ _), View.read_writes_eq_canon _ _ _ (cover0_B_10 c _ _ _ _ _ _ _ _ _ _ _ _ _ _ _ _ _ _ _ _ _ _ _ _ _ _ _ _ _ _ _ _ _ _ _), View.read_writes_eq_canon _ _ _ (cover0_B_11 c _ _ _ _ _ _ _ _ _ _ _ _ _ _ _ _ _ _ _ _ _ _ _ _ _ _ _ _ _ _ _ _ _ _ _)]
  unfold kernelRun0_B
  dsimp only
  rw [View.canon_unit_zero (S := S256x7168) (by funext a; fin_cases a <;> rfl), View.canon_cons_unit_zero (S := S7168x256) (by funext a; fin_cases a <;> rfl),
    View.canon_unit_zero (S := S256x256) (by funext a; fin_cases a <;> rfl), View.canon_unit_zero (S := S256x8) (by funext a; fin_cases a <;> rfl)]
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread, ld_whole (F := F) (S := S256x8) (off := ![0, 0]) (by decide), ld_whole (F := F) (S := S256x256) (off := ![0, 0]) (by decide),
    ld_whole (F := F) (S := S1x256) (off := ![0, 0]) (by decide), ld_whole (F := F) (S := S256x7168) (off := ![0, 0]) (by decide), ld_whole (F := F) (S := S7168x256) (off := ![0, 0]) (by decide),
    ld_whole (F := F) (S := S1x1x256) (off := ![0, 0, 0]) (by decide)]
  rfl

end Cert.Proof.Block

end
-- ==== Proof.Row.lean ====
module

public import Idealize.ShloMosaic.Lib.Pointwise

@[expose] public section

noncomputable section

/-! The mathematics of one token's row: from its router logits, its eight expert numbers, its eight weight gradients, the
    load fractions and the loss coefficient to the gradients of its 256 logits. Both programs are read down to these. -/

namespace Cert.Proof.Row

open Idealize.ShloMosaic

variable (L : Fin 256 → EReal) (E : Fin 8 → BitVec 32) (W : Fin 8 → EReal) (f : Fin 256 → EReal) (a : EReal)

/-- Whether expert slot `k` of the token names expert `n`, as one bit. -/
def hit (k : Fin 8) (n : Fin 256) : BitVec 1 := IntOp.cmpi .eq (E k) (BitVec.ofNat 32 n.val)

/-- The small constant added to both normalising sums. -/
def eps : EReal := Ideal.ofBits .f32 0x1E3CE508#32

/-- The gate of expert `n`: the logistic function of its logit. -/
def gate (n : Fin 256) : EReal := Ideal.logistic (L n)

/-- The gate of the expert in slot `k`. -/
def chosen (k : Fin 8) : EReal := ∑ n : Fin 256, Scalar.select (hit E k n) (gate L n) 0

/-- The normalising sum of the chosen gates. -/
def total : EReal := (∑ k : Fin 8, chosen L E k) + eps

/-- The gradient of the logit in slot `k` through the normalised combine weights. -/
def dsel (k : Fin 8) : EReal :=
  Ideal.div (Ideal.ofBits .f32 0x40200000#32) (total L E) * (W k - ∑ j : Fin 8, Ideal.div (W j * chosen L E j) (total L E)) * chosen L E k * (1 - chosen L E k)

/-- The gradient of logit `n` through the combine weights: the slots that name expert `n`. -/
def route (n : Fin 256) : EReal := ∑ k : Fin 8, Scalar.select (hit E k n) (dsel L E W k) 0

/-- The gradient of the balance loss in the mean probability of expert `n`. -/
def bal (n : Fin 256) : EReal := Ideal.div (a * Ideal.ofBits .f32 0x43800000#32 * f n) (Ideal.ofBits .f32 0x45800000#32)

/-- The normalising sum of all gates. -/
def norm : EReal := (∑ n : Fin 256, gate L n) + eps

/-- The gradient of logit `n` through the balance loss. -/
def aux (n : Fin 256) : EReal :=
  Ideal.div (bal f a n - ∑ j : Fin 256, bal f a j * Ideal.div (gate L j) (norm L)) (norm L) * gate L n * (1 - gate L n)

/-- The gradient of logit `n`. -/
def dl (n : Fin 256) : EReal := route L E W n + aux L f a n

/-- Selecting a value or zero by a bit is the bit, as a number, times the value. -/
theorem select_eq_mul (b : BitVec 1) (x : EReal) : Scalar.select b x 0 = FloatOps.uitofp (F := Ideal) .f32 b * x := by
  have hb : b = 0#1 ∨ b = 1#1 := by revert b; decide
  rcases hb with rfl | rfl
  · show (0 : EReal) = _ * x
    simp [FloatOps.uitofp]
  · show x = _ * x
    simp [FloatOps.uitofp]

end Cert.Proof.Row

end
-- ==== Proof.BlockAt.lean ====
module

public import proofs.«01_k».proof.Proof.Block
public import proofs.«01_k».proof.Proof.Row

@[expose] public section

set_option maxRecDepth 16384

noncomputable section

/-! What one block of 256 tokens computes, read at an index over the extended reals: each row of the block is the row
    function of `Row.lean` at that row's inputs. -/

namespace Cert.Proof.BlockAt

open Cert.KernelIdeal Cert.KernelIdeal.Gen Idealize.ShloMosaic Idealize.ShloMosaic.TcCoe Cert.Proof.Block

/-- The gates of the block at an index. -/
theorem gB_apply (x2 : Vec Ideal S256x8 .i32) (x3 : Vec Ideal S256x256 .f32) (r : Fin 256) (k : Fin 8) :
    gB x2 x3 (ix2 r k) = Row.chosen (fun n => x3 (ix2 r n)) (fun k => x2 (ix2 r k)) k := by
  unfold Row.chosen Row.hit Row.gate
  pointwise [gB, k0_pay12, k0_pay3, k0_pay4, k0_pay5, k0_pay6, k0_pay7, k0_pay8, k0_pay9, k0_pay10, k0_pay11]
  fin_cases k <;> rfl

/-- The sum of the eight chosen gates of each row. -/
theorem sB_apply (x2 : Vec Ideal S256x8 .i32) (x3 : Vec Ideal S256x256 .f32) (r : Fin 256) :
    sB x2 x3 (ix2 r 0) = ∑ k : Fin 8, Row.chosen (fun n => x3 (ix2 r n)) (fun k => x2 (ix2 r k)) k := by
  rw [show sB x2 x3 (ix2 r 0) = ∑ k : Fin 8, gB x2 x3 (ix2 r k) from by unfold sB; pointwise [k0_pay13, gB]]
  exact Finset.sum_congr rfl fun k _ => gB_apply x2 x3 r k

/-- The gradient of each chosen logit, through the normalised combine weights. -/
theorem dselB_apply (w : FVec Ideal S256x8 .f32) (x2 : Vec Ideal S256x8 .i32) (x3 : Vec Ideal S256x256 .f32) (r : Fin 256) (k : Fin 8) :
    dselB w x2 x3 (ix2 r k) = Row.dsel (fun n => x3 (ix2 r n)) (fun k => x2 (ix2 r k)) (fun k => w (ix2 r k)) k := by
  unfold dselB Row.dsel Row.total Row.eps
  pointwise [k0_pay15, k0_pay14]
  simp only [gB_apply, sB_apply]

/-- Column 5 of the chosen-logit gradients, spread over the experts. -/
theorem pay17_apply (w g : FVec Ideal S256x8 .f32) (s e : FVec Ideal S256x1 .f32) (r n : Fin 256) :
    k0_pay17 w g s e (ix2 r n) = k0_pay15 w g s e (ix2 r 5) := by
  pointwise [k0_pay17]

/-- The first five expert slots of each row, scattered over the experts. -/
theorem pay16_apply (w g : FVec Ideal S256x8 .f32) (s e : FVec Ideal S256x1 .f32) (b0 b1 b2 b3 b4 : IVec S256x256 1) (r n : Fin 256) :
    k0_pay16 w b0 b1 b2 b3 b4 g s e (ix2 r n) = Scalar.select (b0 (ix2 r n)) (k0_pay15 w g s e (ix2 r 0)) 0 + Scalar.select (b1 (ix2 r n)) (k0_pay15 w g s e (ix2 r 1)) 0
      + Scalar.select (b2 (ix2 r n)) (k0_pay15 w g s e (ix2 r 2)) 0 + Scalar.select (b3 (ix2 r n)) (k0_pay15 w g s e (ix2 r 3)) 0 + Scalar.select (b4 (ix2 r n)) (k0_pay15 w g s e (ix2 r 4)) 0 := by
  pointwise [k0_pay16]

/-- The last three expert slots added to the first five, plus the balance-loss gradient. -/
theorem pay18_apply (sg : FVec Ideal S256x256 .f32) (b5 b6 b7 : IVec S256x256 1) (d : FVec Ideal S256x8 .f32) (v196 : FVec Ideal S256x256 .f32) (z : EReal) (v199 : FVec Ideal S256x256 .f32)
    (a : EReal) (x7 : Vec Ideal S1x256 .f32) (r n : Fin 256) :
    k0_pay18 (F := Ideal) sg b5 b6 b7 d v196 z v199 a x7 (ix2 r n) = v196 (ix2 r n) + Scalar.select (b5 (ix2 r n)) (v199 (ix2 r n)) z + Scalar.select (b6 (ix2 r n)) (d (ix2 r 6)) 0
      + Scalar.select (b7 (ix2 r n)) (d (ix2 r 7)) 0
      + Ideal.div (Row.bal (fun n => x7 (ix2 0 n)) a n - ∑ j : Fin 256, Row.bal (fun n => x7 (ix2 0 n)) a j * Ideal.div (sg (ix2 r j)) ((∑ n : Fin 256, sg (ix2 r n)) + Row.eps)) ((∑ n : Fin 256, sg (ix2 r n)) + Row.eps) * sg (ix2 r n) * (1 - sg (ix2 r n)) := by
  unfold Row.bal Row.eps
  pointwise [k0_pay18]

/-- The logit gradients of the block at a row and an expert: the row function of `Row.lean`. -/
theorem dlB_apply (w : FVec Ideal S256x8 .f32) (a : EReal) (x2 : Vec Ideal S256x8 .i32) (x3 : Vec Ideal S256x256 .f32) (x7 : Vec Ideal S1x256 .f32) (r n : Fin 256) :
    dlB w a x2 x3 x7 (ix2 r n) = Row.dl (fun n => x3 (ix2 r n)) (fun k => x2 (ix2 r k)) (fun k => w (ix2 r k)) (fun n => x7 (ix2 0 n)) a n := by
  have hs : ∀ j : Fin 256, k0_pay3 x3 (ix2 r j) = Ideal.logistic (x3 (ix2 r j)) := fun j => by pointwise [k0_pay3]
  unfold Row.dl Row.route Row.aux Row.norm Row.hit Row.gate
  rw [Fin.sum_univ_eight]
  simp only [← dselB_apply]
  unfold dlB dselB
  rw [pay18_apply, pay16_apply, pay17_apply]
  simp only [hs]
  pointwise [k0_pay4, k0_pay5, k0_pay6, k0_pay7, k0_pay8, k0_pay9, k0_pay10, k0_pay11]

/-- The row of the weight-gradient array that the body loads for slot `k` and half `p`. -/
theorem off1_eq (i : grid0.Coords) (k : Fin 8) (p : Fin 2) :
    k0_off1 i (BitVec.ofNat 32 (32 * k.val)) (BitVec.ofNat 32 p.val) = ![32 * k.val + 2 * (i 0).val + p.val, 0] := by
  have h : ∀ (a : Fin 16) (k : Fin 8) (p : Fin 2), (Scalar.indexCast (Scalar.addi (Scalar.addi (BitVec.ofNat 32 (32 * k.val)) (Scalar.muli (BitVec.ofNat 32 a.val) 2#32)) (BitVec.ofNat 32 p.val))).toNat = 32 * k.val + 2 * a.val + p.val := by decide +kernel
  have h' := h (i 0) k p
  show ![_, 0] = _
  rw [← h']

/-- One such row, read at a lane. -/
theorem dwRow_apply (i : grid0.Coords) (x1 : Vec Ideal S256x128 .f32) (k : Fin 8) (p : Fin 2) (l : Fin 128) :
    dwRow i x1 k p (ix2 0 l) = x1 (ix2 ⟨32 * k.val + 2 * (i 0).val + p.val, by have := (i 0).isLt; have : (i 0).val < 16 := this; omega⟩ l) := by
  have h := off1_eq i k p
  unfold dwRow
  show x1 ((Rect.unit (s := S256x128) (k0_off1 i (BitVec.ofNat 32 (32 * k.val)) (BitVec.ofNat 32 p.val)) S1x128.size (k0_off1_inb i k p)).emb _) = _
  refine congrArg x1 (funext fun b => Fin.ext ?_)
  have hb : ((Rect.unit (s := S256x128) (k0_off1 i (BitVec.ofNat 32 (32 * k.val)) (BitVec.ofNat 32 p.val)) S1x128.size (k0_off1_inb i k p)).emb (ix2 0 l) b).val = k0_off1 i (BitVec.ofNat 32 (32 * k.val)) (BitVec.ofNat 32 p.val) b + 1 * ((ix2 (0 : Fin 1) l : S1x128.Idx) b).val := rfl
  rw [hb, h]
  match b with
  | ⟨0, _⟩ => simp
  | ⟨1, _⟩ => simp

/-- The weight gradients of the block at a row and a slot: an entry of the given array, re-indexed. -/
theorem dwB_apply (i : grid0.Coords) (x1 : Vec Ideal S256x128 .f32) (r : Fin 256) (k : Fin 8) :
    dwB i x1 (ix2 r k) = x1 (ix2 ⟨32 * k.val + 2 * (i 0).val + r.val / 128, by have := (i 0).isLt; have : (i 0).val < 16 := this; omega⟩ ⟨r.val % 128, by omega⟩) := by
  by_cases h : r.val < 128
  · have e : dwB i x1 (ix2 r k) = dwRow i x1 k 0 (ix2 0 ⟨r.val, h⟩) := by
      pointwise [dwB, k0_pay1, k0_pay2]
      rw [dif_pos h]
      fin_cases k <;> rfl
    rw [e, dwRow_apply]
    refine congrArg x1 (congrArg₂ ix2 (Fin.ext ?_) (Fin.ext ?_))
    · show 32 * k.val + 2 * (i 0).val + 0 = 32 * k.val + 2 * (i 0).val + r.val / 128
      omega
    · show r.val = r.val % 128
      omega
  · have hr := r.isLt
    have e : dwB i x1 (ix2 r k) = dwRow i x1 k 1 (ix2 0 ⟨r.val - 128, by omega⟩) := by
      pointwise [dwB, k0_pay1, k0_pay2]
      rw [dif_neg h]
      fin_cases k <;> rfl
    rw [e, dwRow_apply]
    refine congrArg x1 (congrArg₂ ix2 (Fin.ext ?_) (Fin.ext ?_))
    · show 32 * k.val + 2 * (i 0).val + 1 = 32 * k.val + 2 * (i 0).val + r.val / 128
      omega
    · show r.val - 128 = r.val % 128
      omega

/-- The input gradient of the block: the logit gradients times the transposed router weight. -/
theorem dxB_apply (d : FVec Ideal S256x256 .f32) (x6 : Vec Ideal S7168x256 .bf16) (r : Fin 256) (k : Fin 7168) :
    dxB d x6 (ix2 r k) = ∑ n : Fin 256, d (ix2 r n) * x6 (ix2 k n) := by
  pointwise [dxB, k0_pay20]

/-- The accumulator after the block: before it, plus the dequantised inputs transposed times the logit gradients. -/
theorem accB_apply (d : FVec Ideal S256x256 .f32) (x4 : Vec Ideal S256x7168 .fp8e4m3) (x5 : Vec Ideal S1x1x256 .f32) (acc : Vec Ideal S7168x256 .f32) (k : Fin 7168) (n : Fin 256) :
    accB d x4 x5 acc (ix2 k n) = acc (ix2 k n) + ∑ r : Fin 256, x4 (ix2 r k) * x5 (ix3 0 0 r) * d (ix2 r n) := by
  have hdiag : ∀ (g : Fin 128 → EReal) (x : Fin 128), (∑ y : Fin 128, Scalar.select (IntOp.cmpi CmpIPredicate.eq (BitVec.ofNat 32 x.val) (BitVec.ofNat 32 y.val)) (g y) 0) = g x := by
    have hc : ∀ x y : Fin 128, IntOp.cmpi CmpIPredicate.eq (BitVec.ofNat 32 x.val) (BitVec.ofNat 32 y.val) = if x = y then 1#1 else 0#1 := by decide +kernel
    intro g x
    rw [Finset.sum_eq_single x]
    · rw [hc, if_pos rfl]; rfl
    · intro y _ hy; rw [hc, if_neg (Ne.symm hy)]; rfl
    · intro h; exact absurd (Finset.mem_univ x) h
  have hsplit : ∀ g : Fin 256 → EReal, (∑ r : Fin 256, g r) = (∑ x : Fin 128, g ⟨x.val, by omega⟩) + ∑ x : Fin 128, g ⟨128 + x.val, by omega⟩ := fun g => Fin.sum_univ_add (a := 128) (b := 128) g
  rw [hsplit]
  pointwise [accB, k0_pay22]
  simp only [hdiag]

end Cert.Proof.BlockAt

end
-- ==== Proof.Spec.lean ====
module

public import proofs.«01_k».proof.Proof.Row

@[expose] public section

noncomputable section

/-! The four results as functions of the eight arguments, over the extended reals: what both programs are shown to hold.
    `D` are the weight gradients in the layout they are given in, `E` the expert numbers, `L` the router logits, `C` the
    input codes, `s` the input scales, `W` the router weight, `f` the load fractions, `a` the loss coefficient. -/

namespace Cert.Proof.Spec

variable (D : Fin 256 → Fin 128 → EReal) (E : Fin 4096 → Fin 8 → BitVec 32) (L : Fin 4096 → Fin 256 → EReal)
  (C : Fin 4096 → Fin 7168 → EReal) (s : Fin 4096 → EReal) (W : Fin 7168 → Fin 256 → EReal) (f : Fin 256 → EReal) (a : EReal)

/-- The weight gradient of token `T` in slot `k`: the given array holds slot by slot 32 rows of 128 tokens. -/
def dw (T : Fin 4096) (k : Fin 8) : EReal := D ⟨32 * k.val + T.val / 128, by omega⟩ ⟨T.val % 128, by omega⟩

/-- The gradient of logit `n` of token `T`. -/
def dlogits (T : Fin 4096) (n : Fin 256) : EReal := Row.dl (L T) (E T) (dw D T) f a n

/-- The gradient of input feature `k` of token `T`. -/
def dx (T : Fin 4096) (k : Fin 7168) : EReal := ∑ n : Fin 256, dlogits D E L f a T n * W k n

/-- The gradient of the router weight. -/
def dWr (k : Fin 7168) (n : Fin 256) : EReal := ∑ T : Fin 4096, C T k * s T * dlogits D E L f a T n

end Cert.Proof.Spec

end
-- ==== Proof.Arrays.lean ====
module

public import proofs.«01_k».proof.Proof.BlockAt
public import proofs.«01_k».proof.Proof.Spec
public import Idealize.ShloMosaic.Lib.Pipeline.ValueKit

@[expose] public section

set_option maxRecDepth 16384

noncomputable section

/-! What the kernel's result arrays hold after the run, over the extended reals: the functions of `Spec.lean` at the
    arguments. The tiled results are read block by block, the router-weight gradient as the accumulator's sum over points. -/

namespace Cert.Proof.Arrays

open Cert.KernelIdeal Cert.KernelIdeal.Gen Idealize.ShloMosaic Idealize.ShloMosaic.TcCoe Cert.Proof.Block
variable (m : (ℓ : Loc nD τ sig) → Buf (Elt Ideal) ℓ)

/-! ## The arguments as functions of their indices -/

/-- The weight gradients as given. -/
abbrev argD (c : Dev nD) (i : Fin 256) (j : Fin 128) : EReal := m ((c : Thread nD τ).loc main_arg0) (ix2 i j)
/-- The expert numbers. -/
abbrev argE (c : Dev nD) (T : Fin 4096) (k : Fin 8) : BitVec 32 := m ((c : Thread nD τ).loc main_arg1) (ix2 T k)
/-- The router logits. -/
abbrev argL (c : Dev nD) (T : Fin 4096) (n : Fin 256) : EReal := m ((c : Thread nD τ).loc main_arg2) (ix2 T n)
/-- The input codes. -/
abbrev argC (c : Dev nD) (T : Fin 4096) (k : Fin 7168) : EReal := m ((c : Thread nD τ).loc main_arg3) (ix2 T k)
/-- The input scales. -/
abbrev argS (c : Dev nD) (T : Fin 4096) : EReal := m ((c : Thread nD τ).loc main_arg4) (ix1 T)
/-- The router weight. -/
abbrev argW (c : Dev nD) (k : Fin 7168) (n : Fin 256) : EReal := m ((c : Thread nD τ).loc main_arg5) (ix2 k n)
/-- The load fractions. -/
abbrev argF (c : Dev nD) (n : Fin 256) : EReal := m ((c : Thread nD τ).loc main_arg6) (ix1 n)
/-- The loss coefficient. -/
abbrev argA (c : Dev nD) : EReal := m ((c : Thread nD τ).loc main_arg7) (ix1 0)

/-- The region finds the scales reshaped to one row of 256 per point. -/
theorem V_main_v0 (c : Dev nD) : V m c main_v0 = shapeCast (s := S4096) S16x1x256 (m ((c : Thread nD τ).loc main_arg4)) shapeCasts_S4096_S16x1x256 := by
  rfl
/-- The region finds the load fractions reshaped to one row. -/
theorem V_main_v1 (c : Dev nD) : V m c main_v1 = shapeCast (s := S256) S1x256 (m ((c : Thread nD τ).loc main_arg6)) shapeCasts_S256_S1x256 := by
  rfl

/-- The token of row `r` of the block of point `t`. -/
def token (t : Fin cfg0.N) (r : Fin 256) : Fin 4096 := ⟨t.val * 256 + r.val, by have := t.isLt; have := r.isLt; have : cfg0.N = 16 := N_0; omega⟩

/-- The grid has one axis: the coordinate of a point is its number. -/
theorem coords_val : ∀ t : Fin cfg0.N, ((grid0.coords t) 0).val = t.val := (by decide +kernel : ∀ t : Fin grid0.N, ((grid0.coords t) 0).val = t.val)
/-- Block numbers of a window at each point: the weight gradients. -/
theorem index1 : ∀ t : Fin cfg0.N, win0_1.index t = ![0, 0] := (by decide +kernel : ∀ t : Fin grid0.N, _)
/-- Block numbers: the expert numbers. -/
theorem index2 : ∀ t : Fin cfg0.N, win0_2.index t = ![t.val, 0] := (by decide +kernel : ∀ t : Fin grid0.N, _)
/-- Block numbers: the logits. -/
theorem index3 : ∀ t : Fin cfg0.N, win0_3.index t = ![t.val, 0] := (by decide +kernel : ∀ t : Fin grid0.N, _)
/-- Block numbers: the codes. -/
theorem index4 : ∀ t : Fin cfg0.N, win0_4.index t = ![t.val, 0] := (by decide +kernel : ∀ t : Fin grid0.N, _)
/-- Block numbers: the scales. -/
theorem index5 : ∀ t : Fin cfg0.N, win0_5.index t = ![t.val, 0, 0] := (by decide +kernel : ∀ t : Fin grid0.N, _)
/-- Block numbers: the router weight. -/
theorem index6 : ∀ t : Fin cfg0.N, win0_6.index t = ![0, 0] := (by decide +kernel : ∀ t : Fin grid0.N, _)
/-- Block numbers: the load fractions. -/
theorem index7 : ∀ t : Fin cfg0.N, win0_7.index t = ![0, 0] := (by decide +kernel : ∀ t : Fin grid0.N, _)
/-- Block numbers: the input gradient. -/
theorem index8 : ∀ t : Fin cfg0.N, win0_8.index t = ![t.val, 0] := (by decide +kernel : ∀ t : Fin grid0.N, _)
/-- Block numbers: the logit gradient. -/
theorem index10 : ∀ t : Fin cfg0.N, win0_10.index t = ![t.val, 0] := (by decide +kernel : ∀ t : Fin grid0.N, _)
/-- Block numbers: the weight-gradient result. -/
theorem index11 : ∀ t : Fin cfg0.N, win0_11.index t = ![t.val, 0] := (by decide +kernel : ∀ t : Fin grid0.N, _)

/-- Every point stages the whole array of weight gradients. -/
theorem D_apply (c : Dev nD) (t : Fin cfg0.N) (i : Fin 256) (j : Fin 128) : iblk m c 1 t (ix2 i j) = argD m c i j := by
  unfold argD
  rw [← V_main_arg0 m c]
  blk_simp [iblk]
  congr 1
  blk_ext [index1]

/-- A point's block of expert numbers is its tokens' rows. -/
theorem E_apply (c : Dev nD) (t : Fin cfg0.N) (r : Fin 256) (k : Fin 8) : iblk m c 2 t (ix2 r k) = argE m c (token t r) k := by
  unfold argE
  rw [← V_main_arg1 m c]
  blk_simp [iblk]
  congr 1
  blk_ext [index2, token]

/-- A point's block of logits is its tokens' rows. -/
theorem L_apply (c : Dev nD) (t : Fin cfg0.N) (r : Fin 256) (k : Fin 256) : iblk m c 3 t (ix2 r k) = argL m c (token t r) k := by
  unfold argL
  rw [← V_main_arg2 m c]
  blk_simp [iblk]
  congr 1
  blk_ext [index3, token]

/-- A point's block of codes is its tokens' rows. -/
theorem C_apply (c : Dev nD) (t : Fin cfg0.N) (r : Fin 256) (k : Fin 7168) : iblk m c 4 t (ix2 r k) = argC m c (token t r) k := by
  unfold argC
  rw [← V_main_arg3 m c]
  blk_simp [iblk]
  congr 1
  blk_ext [index4, token]

/-- Every point stages the whole router weight. -/
theorem W_apply (c : Dev nD) (t : Fin cfg0.N) (k : Fin 7168) (n : Fin 256) : iblk m c 6 t (ix2 k n) = argW m c k n := by
  unfold argW
  rw [← V_main_arg5 m c]
  blk_simp [iblk]
  congr 1
  blk_ext [index6]

/-- Every point loads the loss coefficient. -/
theorem A_apply (c : Dev nD) (t : Fin cfg0.N) :
    View.ld (iblk m c 0 t) (Rect.unit (s := S1) ![0] S1.size inb_S1_S1_0) (Shape.Idx.first (s := S1) (by decide)) = argA m c := by
  unfold argA
  rw [← V_main_arg7 m c]
  have e : ∀ i : S1.Idx, i = ix1 0 := fun i => by funext a; apply Fin.ext; match a with | ⟨0, _⟩ => have := (i 0).isLt; have : (i 0).val < 1 := this; show (i 0).val = 0; omega
  show V m c main_arg7 _ = _
  congr 1
  exact e _

/-- Every point stages the load fractions. -/
theorem f_apply (c : Dev nD) (t : Fin cfg0.N) (n : Fin 256) : iblk m c 7 t (ix2 0 n) = argF m c n := by
  blk_simp [iblk]
  rw [V_main_v1, show (win0_7.blk t).view.emb (ix2 0 n) = (ix2 0 n : S1x256.Idx) from by blk_ext [index7]]
  pointwise

/-- A point's block of scales is its tokens' scales. -/
theorem s_apply (c : Dev nD) (t : Fin cfg0.N) (r : Fin 256) : iblk m c 5 t (ix3 0 0 r) = argS m c (token t r) := by
  blk_simp [iblk]
  have hN : t.val < 16 := Nat.lt_of_lt_of_eq t.isLt N_0
  rw [V_main_v0, show (win0_5.blk t).view.emb (ix3 0 0 r) = (ix3 ⟨t.val, hN⟩ 0 r : S16x1x256.Idx) from by blk_ext [index5]]
  pointwise
  rfl

/-- The weight gradients of a point's block are its tokens' entries. -/
theorem dw_apply (c : Dev nD) (t : Fin cfg0.N) (r : Fin 256) (k : Fin 8) :
    dwB (grid0.coords t) (iblk m c 1 t) (ix2 r k) = Spec.dw (argD m c) (token t r) k := by
  rw [BlockAt.dwB_apply, D_apply]
  unfold Spec.dw token
  have := coords_val t
  congr 1 <;> apply Fin.ext <;> dsimp only <;> omega

/-- The logit gradients of a point's block are its tokens' rows. -/
theorem dl_apply (c : Dev nD) (t : Fin cfg0.N) (r n : Fin 256) :
    dlAt m c t (ix2 r n) = Spec.dlogits (argD m c) (argE m c) (argL m c) (argF m c) (argA m c) (token t r) n := by
  have hL : (fun n : Fin 256 => iblk m c 3 t (ix2 r n)) = argL m c (token t r) := funext fun n => L_apply m c t r n
  have hE : (fun k : Fin 8 => iblk m c 2 t (ix2 r k)) = argE m c (token t r) := funext fun k => E_apply m c t r k
  have hw : (fun k : Fin 8 => dwB (grid0.coords t) (iblk m c 1 t) (ix2 r k)) = Spec.dw (argD m c) (token t r) :=
    funext fun k => dw_apply m c t r k
  have hf : (fun n : Fin 256 => iblk m c 7 t (ix2 0 n)) = argF m c := funext fun n => f_apply m c t n
  unfold Spec.dlogits
  rw [← hL, ← hE, ← hw, ← hf, ← A_apply m c t]
  exact BlockAt.dlB_apply _ _ _ _ _ r n

/-- What the body leaves in the three tiled outputs, at every point. -/
theorem outs (c : Dev nD) (t : Fin cfg0.N) :
    (outsAt0 m c t.val t.isLt).1 = dxB (dlAt m c t) (iblk m c 6 t) ∧ (outsAt0 m c t.val t.isLt).2.2.1 = dlAt m c t
      ∧ (outsAt0 m c t.val t.isLt).2.2.2 = dwB (grid0.coords t) (iblk m c 1 t) := by
  by_cases h0 : t.val % 16 = 0
  · rw [outs_A m c t h0]; exact ⟨rfl, rfl, rfl⟩
  · rw [outs_B m c t h0]; exact ⟨rfl, rfl, rfl⟩

/-- Where a block's index lies in the input-gradient array. -/
theorem emb8 (t : Fin cfg0.N) (y : S256x7168.Idx) : (win0_8.blk t).view.emb y = (ix2 (token t (y 0)) (y 1) : S4096x7168.Idx) := by
  blk_ext [index8, token]
/-- Where a block's index lies in the logit-gradient array. -/
theorem emb10 (t : Fin cfg0.N) (y : S256x256.Idx) : (win0_10.blk t).view.emb y = (ix2 (token t (y 0)) (y 1) : S4096x256.Idx) := by
  blk_ext [index10, token]
/-- Where a block's index lies in the weight-gradient array. -/
theorem emb11 (t : Fin cfg0.N) (y : S256x8.Idx) : (win0_11.blk t).view.emb y = (ix2 (token t (y 0)) (y 1) : S4096x8.Idx) := by
  blk_ext [index11, token]

/-- The weight-gradient result after the run. -/
theorem dw_array (c : Dev nD) :
    (dats m 0 c).arrAt 11 cfg0.N = fun i : S4096x8.Idx => Spec.dw (argD m c) (i 0) (i 1) := by
  refine (dats m 0 c).arrAt_eq_of_covers 11 _ (by decide +kernel) fun t hf y => ?_
  blk_simp
  rw [after0_11, (outs m c t).2.2, emb11 t y]
  exact (congrArg _ (eq_ix2 y)).trans (dw_apply m c t (y 0) (y 1))

/-- The logit-gradient result after the run. -/
theorem dlogits_array (c : Dev nD) : (dats m 0 c).arrAt 10 cfg0.N
    = fun i : S4096x256.Idx => Spec.dlogits (argD m c) (argE m c) (argL m c) (argF m c) (argA m c) (i 0) (i 1) := by
  refine (dats m 0 c).arrAt_eq_of_covers 10 _ (by decide +kernel) fun t hf y => ?_
  blk_simp
  rw [after0_10, (outs m c t).2.1, emb10 t y]
  exact (congrArg _ (eq_ix2 y)).trans (dl_apply m c t (y 0) (y 1))

/-- The input-gradient result after the run. -/
theorem dx_array (c : Dev nD) : (dats m 0 c).arrAt 8 cfg0.N
    = fun i : S4096x7168.Idx => Spec.dx (argD m c) (argE m c) (argL m c) (argW m c) (argF m c) (argA m c) (i 0) (i 1) := by
  refine (dats m 0 c).arrAt_eq_of_covers 8 _ (by decide +kernel) fun t hf y => ?_
  blk_simp
  rw [after0_8, (outs m c t).1, emb8 t y]
  refine (congrArg _ (eq_ix2 y)).trans ((BlockAt.dxB_apply _ _ (y 0) (y 1)).trans ?_)
  exact Finset.sum_congr rfl fun n _ => congrArg₂ (· * ·) (dl_apply m c t (y 0) n) (W_apply m c t (y 1) n)

/-- What the block of point `t` adds to entry `(k, n)` of the router-weight gradient: its 256 tokens' terms. -/
def term (c : Dev nD) (t : Fin cfg0.N) (i : S7168x256.Idx) : EReal :=
  ∑ r : Fin 256, argC m c (token t r) (i 0) * argS m c (token t r)
    * Spec.dlogits (argD m c) (argE m c) (argL m c) (argF m c) (argA m c) (token t r) (i 1)

/-- One step of the accumulator, at an index. -/
theorem acc_apply (c : Dev nD) (t : Fin cfg0.N) (acc : Vec Ideal S7168x256 .f32) (i : S7168x256.Idx) :
    accB (dlAt m c t) (iblk m c 4 t) (iblk m c 5 t) acc i = acc i + term m c t i := by
  obtain ⟨k, n, rfl⟩ : ∃ (k : Fin 7168) (n : Fin 256), i = ix2 k n := ⟨i 0, i 1, eq_ix2 i⟩
  refine (BlockAt.accB_apply _ _ _ _ k n).trans (congrArg (acc (ix2 k n) + ·) (Finset.sum_congr rfl fun r _ => ?_))
  rw [dl_apply, C_apply, s_apply]
  rfl

/-- The block the first point stores before accumulating is zero. -/
theorem zero_apply (i : S7168x256.Idx) : k0_pay21 (F := Ideal) i = (0 : EReal) := by
  obtain ⟨k, n, rfl⟩ : ∃ (k : Fin 7168) (n : Fin 256), i = ix2 k n := ⟨i 0, i 1, eq_ix2 i⟩
  pointwise [k0_pay21]

/-- The router-weight gradient after the run: the last point writes back the sum over all points, which is over all tokens. -/
theorem dWr_array (c : Dev nD) : (dats m 0 c).arrAt 9 cfg0.N
    = fun i : S7168x256.Idx => Spec.dWr (argD m c) (argE m c) (argL m c) (argC m c) (argS m c) (argF m c) (argA m c) (i 0) (i 1) := by
  refine (dats m 0 c).arrAt_eq_of_after_last 9 t0_15 (by decide +kernel) _ fun j => ?_
  blk_simp
  rw [after0_9, Pipeline.eq_sum_fin_of_reset_step_apply_last (fun n h => (outsAt0 m c n h).2.1) 16 (fun _ => (0 : EReal)) (term m c)
    (fun t h i => by rw [outs_A m c t h]; exact (acc_apply m c t _ i).trans (by rw [zero_apply]))
    (fun t h i => by rw [outs_B m c t h]; exact acc_apply m c t _ i)
    (le_of_eq N_0) t0_15 rfl j, zero_add]
  exact Fin.sum_mul_add_fin 16 256 (fun T : Fin 4096 => argC m c T (j 0) * argS m c T
    * Spec.dlogits (argD m c) (argE m c) (argL m c) (argF m c) (argA m c) T (j 1))

end Cert.Proof.Arrays

end
-- ==== Proof.Reference.lean ====
module

public import proofs.«01_k».proof.Proof.Gen.ReferenceIdeal.Read
public import proofs.«01_k».proof.Proof.Spec
public import Idealize.ShloMosaic.Lib.Pipeline.ValueKit

@[expose] public section

set_option maxRecDepth 16384

noncomputable section

/-! What the reference computes, read at an index over the extended reals: its stages are the row functions of
    `Row.lean`, its results those of `Spec.lean`. -/

namespace Cert.Proof.Reference

open Cert.ReferenceIdeal Cert.ReferenceIdeal.Gen Cert.ReferenceIdeal.Read Idealize.ShloMosaic Idealize.ShloMosaic.TcCoe Idealize.SL.Sem

variable (x0 : (⟨S256x128, .f32⟩ : BufTy).Contents (Elt Ideal)) (x1 : (⟨S4096x8, .i32⟩ : BufTy).Contents (Elt Ideal))
  (x2 : (⟨S4096x256, .f32⟩ : BufTy).Contents (Elt Ideal)) (x5 : (⟨S7168x256, .bf16⟩ : BufTy).Contents (Elt Ideal))
  (x6 : (⟨S256, .f32⟩ : BufTy).Contents (Elt Ideal)) (x7 : (⟨S1, .f32⟩ : BufTy).Contents (Elt Ideal))
  (r0 : (⟨S4096x7168, .bf16⟩ : BufTy).Contents (Elt Ideal))

/-! ## The arguments as functions of their indices -/

/-- The weight gradients as given. -/
abbrev fD (i : Fin 256) (j : Fin 128) : EReal := x0 (ix2 i j)
/-- The expert numbers. -/
abbrev fE (T : Fin 4096) (k : Fin 8) : BitVec 32 := x1 (ix2 T k)
/-- The router logits. -/
abbrev fL (T : Fin 4096) (n : Fin 256) : EReal := x2 (ix2 T n)
/-- The router weight. -/
abbrev fW (k : Fin 7168) (n : Fin 256) : EReal := x5 (ix2 k n)
/-- The load fractions. -/
abbrev fF (n : Fin 256) : EReal := x6 (ix1 n)
/-- The loss coefficient. -/
abbrev fA : EReal := x7 (ix1 0)

/-! ## The stages of one row -/

/-- The one-hot comparison: one where the slot names the expert, zero elsewhere. -/
theorem hot_apply (T : Fin 4096) (k : Fin 8) (n : Fin 256) :
    val_main_v4 (F := Ideal) x1 (ix3 T k n) = FloatOps.uitofp (F := Ideal) .f32 (Row.hit (fE x1 T) k n) := by
  unfold Row.hit
  pointwise [val_main_v4, val_main_call0_v4, val_main_call0_v3, val_main_call0_v2, val_main_call0_v1, val_main_call0_v0]

/-- The gates are the logistic function of the logits. -/
theorem gate_apply (T : Fin 4096) (n : Fin 256) : val_main_v10 (F := Ideal) x2 (ix2 T n) = Row.gate (fL x2 T) n := by
  unfold Row.gate
  pointwise [val_main_v10, val_main_v9, val_main_v8, val_main_v7, val_main_v6, val_main_v5, val_main_cst, val_main_cst_0]
  rfl

/-- The gates of the chosen experts: a sum over the one-hot comparison. -/
theorem chosen_apply (T : Fin 4096) (k : Fin 8) : val_main_v11 (F := Ideal) x1 x2 (ix2 T k) = Row.chosen (fL x2 T) (fE x1 T) k := by
  pointwise [val_main_v11]
  simp only [hot_apply, gate_apply]
  unfold Row.chosen
  simp only [Row.select_eq_mul]

/-- The normalising sum of the chosen gates. -/
theorem total_apply (T : Fin 4096) : val_main_v15 (F := Ideal) x1 x2 (ix2 T 0) = Row.total (fL x2 T) (fE x1 T) := by
  unfold Row.total Row.eps
  pointwise [val_main_v15, val_main_v14, val_main_v13, val_main_v12, val_main_cst_1, val_main_cst_2]
  simp only [chosen_apply]

/-- The weight gradients: the given array flattened to eight rows of 4096 and transposed. -/
theorem dw_apply (T : Fin 4096) (k : Fin 8) : val_main_v3 (F := Ideal) x0 (ix2 T k) = Spec.dw (fD x0) T k := by
  unfold Spec.dw
  pointwise [val_main_v3, val_main_v2]
  simp only [Nat.mul_comm]

/-- The gradients of the chosen logits. -/
theorem dsel_apply (T : Fin 4096) (k : Fin 8) :
    val_main_v30 (F := Ideal) x0 x1 x2 (ix2 T k) = Row.dsel (fL x2 T) (fE x1 T) (Spec.dw (fD x0) T) k := by
  unfold Row.dsel
  pointwise [val_main_v30, val_main_v29, val_main_v28, val_main_v27, val_main_v26, val_main_v25, val_main_v24, val_main_v23, val_main_v22,
    val_main_v21, val_main_v20, val_main_v19, val_main_v18, val_main_v17, val_main_v16, val_main_cst_3, val_main_cst_4, val_main_cst_5]
  simp only [chosen_apply, total_apply, dw_apply]

/-- The gradients of the logits through the combine weights. -/
theorem route_apply (T : Fin 4096) (n : Fin 256) :
    val_main_v31 (F := Ideal) x0 x1 x2 (ix2 T n) = Row.route (fL x2 T) (fE x1 T) (Spec.dw (fD x0) T) n := by
  pointwise [val_main_v31]
  simp only [hot_apply, dsel_apply]
  unfold Row.route
  simp only [Row.select_eq_mul]

/-- The gradient of the balance loss in the mean probabilities. -/
theorem bal_apply (n : Fin 256) : val_main_v37 (F := Ideal) x6 x7 (ix1 n) = Row.bal (fF x6) (fA x7) n := by
  unfold Row.bal
  pointwise [val_main_v37, val_main_v36, val_main_v35, val_main_v34, val_main_v33, val_main_v32, val_main_cst_6, val_main_cst_7]

/-- The normalising sum of all gates. -/
theorem norm_apply (T : Fin 4096) : val_main_v41 (F := Ideal) x2 (ix2 T 0) = Row.norm (fL x2 T) := by
  unfold Row.norm Row.eps
  pointwise [val_main_v41, val_main_v40, val_main_v39, val_main_v38, val_main_cst_8, val_main_cst_9]
  simp only [gate_apply]

/-- The gradients of the logits through the balance loss. -/
theorem aux_apply (T : Fin 4096) (n : Fin 256) :
    val_main_v58 (F := Ideal) x2 x6 x7 (ix2 T n) = Row.aux (fL x2 T) (fF x6) (fA x7) n := by
  unfold Row.aux
  pointwise [val_main_v58, val_main_v57, val_main_v56, val_main_v55, val_main_v54, val_main_v53, val_main_v52, val_main_v51, val_main_v50,
    val_main_v49, val_main_v48, val_main_v47, val_main_v46, val_main_v45, val_main_v44, val_main_v43, val_main_v42, val_main_cst_10, val_main_cst_11]
  simp only [gate_apply, norm_apply, bal_apply]

/-! ## The results -/

/-- The gradients of the logits. -/
theorem dlogits_apply (T : Fin 4096) (n : Fin 256) :
    val_main_v59 (F := Ideal) x0 x1 x2 x6 x7 (ix2 T n) = Spec.dlogits (fD x0) (fE x1) (fL x2) (fF x6) (fA x7) T n := by
  unfold Spec.dlogits Row.dl
  pointwise [val_main_v59]
  rw [route_apply, aux_apply]

/-- The gradient of the input. -/
theorem dx_apply (T : Fin 4096) (k : Fin 7168) : val_main_v62 (F := Ideal) x0 x1 x2 x5 x6 x7 (ix2 T k)
    = Spec.dx (fD x0) (fE x1) (fL x2) (fW x5) (fF x6) (fA x7) T k := by
  unfold Spec.dx
  pointwise [val_main_v62, val_main_v61, val_main_v60]
  simp only [dlogits_apply]

/-- The gradient of the router weight, over any dequantised input `r0`. -/
theorem dWr_apply (k : Fin 7168) (n : Fin 256) : val_main_v63 (F := Ideal) x0 x1 x2 x6 x7 r0 (ix2 k n)
    = ∑ T : Fin 4096, r0 (ix2 T k) * Spec.dlogits (fD x0) (fE x1) (fL x2) (fF x6) (fA x7) T n := by
  pointwise [val_main_v63, val_main_v60]
  simp only [dlogits_apply]

/-! ## The dequantised input -/

variable (m : (ℓ : Loc nD τ sig) → Buf (Elt Ideal) ℓ)

/-- The input codes. -/
abbrev argC (c : Dev nD) (T : Fin 4096) (k : Fin 7168) : EReal := m ((c : Thread nD τ).loc main_arg3) (ix2 T k)
/-- The input scales. -/
abbrev argS (c : Dev nD) (T : Fin 4096) : EReal := m ((c : Thread nD τ).loc main_arg4) (ix1 T)

/-- Both inputs of the region are staged whole. -/
theorem index0 : ∀ t : Fin cfg0.N, win0_0.index t = ![0, 0] := (by decide +kernel : ∀ t : Fin grid0.N, _)
/-- The scale column too. -/
theorem index1 : ∀ t : Fin cfg0.N, win0_1.index t = ![0, 0] := (by decide +kernel : ∀ t : Fin grid0.N, _)

/-- The staged codes are the codes argument. -/
theorem C_apply (c : Dev nD) (t : Fin cfg0.N) (T : Fin 4096) (k : Fin 7168) : iblk m c 0 t (ix2 T k) = argC m c T k := by
  unfold argC
  rw [← V_main_arg3 m c]
  blk_simp [iblk]
  congr 1
  blk_ext [index0]

/-- The staged scale column holds the scales argument. -/
theorem s_apply (c : Dev nD) (t : Fin cfg0.N) (T : Fin 4096) : iblk m c 1 t (ix2 T 0) = argS m c T := by
  have hs : V m c main_v0 = broadcastInDim S4096x1 ![0] bcast_S4096_S4096x1_0 (m ((c : Thread nD τ).loc main_arg4)) := rfl
  blk_simp [iblk]
  rw [hs, show (win0_1.blk t).view.emb (ix2 T 0) = (ix2 T 0 : S4096x1.Idx) from by blk_ext [index1]]
  pointwise

/-- The body's one store, at an index: a code times its row's scale. -/
theorem body_apply (x0 : Vec Ideal S4096x7168 .fp8e4m3) (x1 : Vec Ideal S4096x1 .f32) (T : Fin 4096) (k : Fin 7168) :
    out0_2 x0 x1 (ix2 T k) = x0 (ix2 T k) * x1 (ix2 T 0) := by
  frame_out
  pointwise [k0_pay1]

/-- The region's result: each code times the scale of its token. -/
theorem region_array (c : Dev nD) : Cert.ReferenceIdeal.Value.reg_main_v1 m c
    = fun i : S4096x7168.Idx => argC m c (i 0) (i 1) * argS m c (i 0) := by
  refine (dats m 0 c).arrAt_eq_of_after_last 2 t0_0 (by decide +kernel) _ fun j => ?_
  blk_simp
  rw [after0_2]
  refine (congrArg _ (eq_ix2 j)).trans ((body_apply _ _ (j 0) (j 1)).trans ?_)
  exact congrArg₂ (· * ·) (C_apply m c t0_0 (j 0) (j 1)) (s_apply m c t0_0 (j 0))

/-! ## The run -/

/-- After the run each result array holds its function of the arguments, and the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v62) = (fun i : S4096x7168.Idx => Spec.dx (fD (m ((c : Thread nD τ).loc main_arg0))) (fE (m ((c : Thread nD τ).loc main_arg1))) (fL (m ((c : Thread nD τ).loc main_arg2)))
        (fW (m ((c : Thread nD τ).loc main_arg5))) (fF (m ((c : Thread nD τ).loc main_arg6))) (fA (m ((c : Thread nD τ).loc main_arg7))) (i 0) (i 1))
      ∧ r.2.mem ((c : Thread nD τ).loc main_v63) = (fun i : S7168x256.Idx => Spec.dWr (fD (m ((c : Thread nD τ).loc main_arg0))) (fE (m ((c : Thread nD τ).loc main_arg1))) (fL (m ((c : Thread nD τ).loc main_arg2)))
        (argC m c) (argS m c) (fF (m ((c : Thread nD τ).loc main_arg6))) (fA (m ((c : Thread nD τ).loc main_arg7))) (i 0) (i 1))
      ∧ r.2.mem ((c : Thread nD τ).loc main_v59) = (fun i : S4096x256.Idx => Spec.dlogits (fD (m ((c : Thread nD τ).loc main_arg0))) (fE (m ((c : Thread nD τ).loc main_arg1))) (fL (m ((c : Thread nD τ).loc main_arg2)))
        (fF (m ((c : Thread nD τ).loc main_arg6))) (fA (m ((c : Thread nD τ).loc main_arg7))) (i 0) (i 1))
      ∧ r.2.mem ((c : Thread nD τ).loc main_v3) = (fun i : S4096x8.Idx => Spec.dw (fD (m ((c : Thread nD τ).loc main_arg0))) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => by
    obtain ⟨h62, h63, h59, h3, hk⟩ := h c
    refine ⟨h62.trans ((val_main_v62_eq (Value.exitV m c)).trans ?_), h63.trans ((val_main_v63_eq (Value.exitV m c)).trans ?_),
      h59.trans ((val_main_v59_eq (Value.exitV m c)).trans ?_), h3.trans ((val_main_v3_eq (Value.exitV m c)).trans ?_), hk⟩
    · rw [Value.exit_main_arg0 m c, Value.exit_main_arg1 m c, Value.exit_main_arg2 m c, Value.exit_main_arg5 m c, Value.exit_main_arg6 m c, Value.exit_main_arg7 m c]
      exact funext fun i => (congrArg _ (eq_ix2 i)).trans (dx_apply _ _ _ _ _ _ (i 0) (i 1))
    · rw [Value.exit_main_arg0 m c, Value.exit_main_arg1 m c, Value.exit_main_arg2 m c, Value.exit_main_arg6 m c, Value.exit_main_arg7 m c, Value.exit_main_v1 m c, region_array m c]
      exact funext fun i => (congrArg _ (eq_ix2 i)).trans (dWr_apply _ _ _ _ _ _ (i 0) (i 1))
    · rw [Value.exit_main_arg0 m c, Value.exit_main_arg1 m c, Value.exit_main_arg2 m c, Value.exit_main_arg6 m c, Value.exit_main_arg7 m c]
      exact funext fun i => (congrArg _ (eq_ix2 i)).trans (dlogits_apply _ _ _ _ _ (i 0) (i 1))
    · rw [Value.exit_main_arg0 m c]
      exact funext fun i => (congrArg _ (eq_ix2 i)).trans (dw_apply _ (i 0) (i 1))) (Value.run m ρ)

end Cert.Proof.Reference

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Reference
public import Idealize.ShloMosaic.Adequacy
public import Idealize.ShloMosaic.Init

@[expose] public section

noncomputable section

namespace Cert.Proof

open Idealize.ShloMosaic Idealize.SL.Sem Cert.Kernel

/-- From memories that agree on the arguments, the reference leaves in each result array what the kernel leaves in it. -/
theorem algebraic : letI := Cert.KernelIdeal.Gen.facts; letI := Cert.ReferenceIdeal.Gen.facts;
    Cert.algebraic_KernelIdeal_ReferenceIdeal := by
  intro m g m' g' _ hagree
  refine ⟨_, _, _, _, Cert.KernelIdeal.Value.run_blocks m g, (θ_run _ _ _).mono (fun r h c => ?_) (Reference.run m' g')⟩
  obtain ⟨h62, h63, h59, h3, hk⟩ := h c
  obtain ⟨a0, a1, a2, a3, a4, a5, a6, a7⟩ := hagree c
  refine ⟨h62.trans ?_, h63.trans ?_, h59.trans ?_, h3.trans ?_, hk⟩
  · rw [a0, a1, a2, a5, a6, a7]; exact (Arrays.dx_array m c).symm
  · unfold Reference.argC Reference.argS
    rw [a0, a1, a2, a3, a4, a6, a7]; exact (Arrays.dWr_array m c).symm
  · rw [a0, a1, a2, a6, a7]; exact (Arrays.dlogits_array m c).symm
  · rw [a0]; exact (Arrays.dw_array m c).symm

/-- The five claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial, algebraic⟩

end Cert.Proof

end
